-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary [hPre_binary : Cert.Pre_binary.Facts] (m : (ℓ : Loc Cert.KernelIdeal.nD Cert.KernelIdeal.τ Cert.KernelIdeal.sig) → Buf (Elt Ideal) ℓ) : Prop :=
  ∀ c : Dev Cert.KernelIdeal.nD,
    (Cert.Pre_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary [hPre_binary : Cert.Pre_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_binary [hKernelIdeal : Cert.KernelIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_binary [hReferenceIdeal : Cert.ReferenceIdeal.Facts] [hPre_binary : Cert.Pre_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_binary [hKernelIdeal : Cert.KernelIdeal.Facts] [hReferenceIdeal : Cert.ReferenceIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_binary : Cert.Pre_binary.Facts),
    quiescent_Kernel (hKernel := hKernel)
    ∧ quiescent_KernelIdeal (hKernelIdeal := hKernelIdeal)
    ∧ quiescent_KernelIdeal_pre_binary (hKernelIdeal := hKernelIdeal) (hPre_binary := hPre_binary)
    ∧ quiescent_ReferenceIdeal (hReferenceIdeal := hReferenceIdeal)
    ∧ quiescent_ReferenceIdeal_pre_binary (hReferenceIdeal := hReferenceIdeal) (hPre_binary := hPre_binary)
    ∧ preserves_Kernel_KernelIdeal
    ∧ algebraic_KernelIdeal_ReferenceIdeal_pre_binary (hKernelIdeal := hKernelIdeal) (hReferenceIdeal := hReferenceIdeal) (hPre_binary := hPre_binary)
-- ==== Pre_binary.lean ====
abbrev S4096x128x21 : Shape := ⟨3, ![4096, 128, 21]⟩
abbrev S21x128 : Shape := ⟨2, ![21, 128]⟩
abbrev S_ : Shape := ⟨0, ![]⟩

class Facts : Prop where
  bcast_S_S4096x128x21 : S_.BroadcastsInDim S4096x128x21 (![] : Fin 0 → Fin S4096x128x21.rank)
  reducesTo_S4096x128x21_S_d0_1_2 : S4096x128x21.ReducesTo [0, 1, 2] S_
  h_S_ : 0 < S_.numel

variable [Facts]

def fn {F : FTy → Type} [FloatOps F] (main_arg0 : FVec F S4096x128x21 .f32) (main_arg1 : FVec F S21x128 .f32) : IVec S_ 1 :=
  let main_cst : FVec F S_ .f32 := constant S_ .f32 0x00000000#32
  let main_v0 : FVec F S4096x128x21 .f32 := broadcastInDim S4096x128x21 ![] bcast_S_S4096x128x21 main_cst
  let main_v1 : IVec S4096x128x21 1 := cmpf .oeq main_arg0 main_v0
  let main_cst_0 : FVec F S_ .f32 := constant S_ .f32 0x3F800000#32
  let main_v2 : FVec F S4096x128x21 .f32 := broadcastInDim S4096x128x21 ![] bcast_S_S4096x128x21 main_cst_0
  let main_v3 : IVec S4096x128x21 1 := cmpf .oeq main_arg0 main_v2
  let main_v4 : IVec S4096x128x21 1 := ori main_v1 main_v3
  let main_c : IVec S_ 1 := constantI S_ 1 1#1
  let main_v5 : IVec S_ 1 := (fun x v => Host.reduce IntOp.andi x v reducesTo_S4096x128x21_S_d0_1_2 h_S_) main_v4 main_c
  main_v5
-- ==== Kernel.lean ====
abbrev S4096x128x21 : Shape := ⟨3, ![4096, 128, 21]⟩
abbrev S21x128 : Shape := ⟨2, ![21, 128]⟩
abbrev S21 : Shape := ⟨1, ![21]⟩
abbrev S1x1x21 : Shape := ⟨3, ![1, 1, 21]⟩
abbrev S_ : Shape := ⟨0, ![]⟩
abbrev S4096x128 : Shape := ⟨2, ![4096, 128]⟩
abbrev S128x128 : Shape := ⟨2, ![128, 128]⟩
abbrev S1 : Shape := ⟨1, ![1]⟩
abbrev S524288x128 : Shape := ⟨2, ![524288, 128]⟩
abbrev S256x128 : Shape := ⟨2, ![256, 128]⟩
abbrev S32768x128 : Shape := ⟨2, ![32768, 128]⟩
abbrev S1x1x128 : Shape := ⟨3, ![1, 1, 128]⟩
abbrev S256x128x1 : Shape := ⟨3, ![256, 128, 1]⟩
abbrev S256x128x128 : Shape := ⟨3, ![256, 128, 128]⟩
abbrev S4096x128x128 : Shape := ⟨3, ![4096, 128, 128]⟩

abbrev nBuf : Space → Nat
  | .hbm => 17
  | .vmem => 5
  | .smem => 0
  | _ => 0

abbrev bufTy : (tb : Table) → Fin (tcTables nBuf tb) → BufTy
  | .hbm, ⟨0, _⟩ => ⟨S4096x128x21, .f32⟩
  | .hbm, ⟨1, _⟩ => ⟨S21x128, .f32⟩
  | .hbm, ⟨2, _⟩ => ⟨S21, .i32⟩
  | .hbm, ⟨3, _⟩ => ⟨S4096x128x21, .i32⟩
  | .hbm, ⟨4, _⟩ => ⟨S1x1x21, .i32⟩
  | .hbm, ⟨5, _⟩ => ⟨S4096x128x21, .i32⟩
  | .hbm, ⟨6, _⟩ => ⟨S4096x128x21, .i32⟩
  | .hbm, ⟨7, _⟩ => ⟨S_, .i32⟩
  | .hbm, ⟨8, _⟩ => ⟨S4096x128, .i32⟩
  | .hbm, ⟨9, _⟩ => ⟨S_, .bf16⟩
  | .hbm, ⟨10, _⟩ => ⟨S128x128, .bf16⟩
  | .hbm, ⟨11, _⟩ => ⟨S21x128, .bf16⟩
  | .hbm, ⟨12, _⟩ => ⟨S_, .i32⟩
  | .hbm, ⟨13, _⟩ => ⟨S1, .i32⟩
  | .hbm, ⟨14, _⟩ => ⟨S128x128, .bf16⟩
  | .hbm, ⟨15, _⟩ => ⟨S524288x128, .f32⟩
  | .hbm, ⟨16, _⟩ => ⟨S4096x128x128, .f32⟩
  | .local _ .vmem, ⟨0, _⟩ => ⟨S256x128, .i32⟩
  | .local _ .vmem, ⟨1, _⟩ => ⟨S256x128, .i32⟩
  | .local _ .vmem, ⟨2, _⟩ => ⟨S128x128, .bf16⟩
  | .local _ .vmem, ⟨3, _⟩ => ⟨S32768x128, .f32⟩
  | .local _ .vmem, ⟨4, _⟩ => ⟨S32768x128, .f32⟩
  | _, _ => ⟨S4096x128x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x128x21 : Shape := ⟨3, ![4096, 128, 21]⟩
abbrev S21x128 : Shape := ⟨2, ![21, 128]⟩
abbrev S524288x21 : Shape := ⟨2, ![524288, 21]⟩
abbrev S524288x128 : Shape := ⟨2, ![524288, 128]⟩
abbrev S4096x128x128 : Shape := ⟨3, ![4096, 128, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x128x21, .f32⟩
  | .hbm, ⟨1, _⟩ => ⟨S21x128, .f32⟩
  | .hbm, ⟨2, _⟩ => ⟨S524288x21, .f32⟩
  | .hbm, ⟨3, _⟩ => ⟨S524288x128, .f32⟩
  | .hbm, ⟨4, _⟩ => ⟨S4096x128x128, .f32⟩
  | _, _ => ⟨S4096x128x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Bits.lean ====
/-
  The word arithmetic of the packed codes. The host packs 21 truth values into one 32-bit word, value `k` worth `2 ^ k`; the
  kernel reads value `l` back by masking the word with `2 ^ l`. Nothing here names a buffer or a program.
-/
module

public import Idealize.ShloMosaic.PureOps.Float
public import Idealize.ShloMosaic.PureOps.Reduce
public import Idealize.ShloMosaic.Lib.WordCmp
public import Mathlib.Data.Nat.Bitwise
public import Mathlib.Algebra.BigOperators.Fin

@[expose] public section

namespace Cert.Proof.Bits

open Idealize.ShloMosaic

/-- The number whose binary digit `k` is the truth value `p k`, for `k` below `n`. -/
def packed (p : ℕ → Bool) (n : ℕ) : ℕ := ∑ k ∈ Finset.range n, (p k).toNat * 2 ^ k

/-- One more digit. -/
theorem packed_succ (p : ℕ → Bool) (n : ℕ) : packed p (n + 1) = 2 ^ n * (p n).toNat + packed p n := by
  unfold packed
  rw [Finset.sum_range_succ, Nat.add_comm, Nat.mul_comm]

/-- A number of `n` digits is below `2 ^ n`. -/
theorem packed_lt (p : ℕ → Bool) : ∀ n, packed p n < 2 ^ n
  | 0 => by simp [packed]
  | n + 1 => by
    have h := packed_lt p n
    rw [packed_succ, Nat.pow_succ]
    cases p n <;> simp <;> omega

/-- Digit `l` of the packed number is `p l`. -/
theorem testBit_packed (p : ℕ → Bool) (l : ℕ) : ∀ n, l < n → (packed p n).testBit l = p l
  | 0, h => absurd h (Nat.not_lt_zero l)
  | n + 1, h => by
    rw [packed_succ, Nat.testBit_two_pow_mul_add _ (packed_lt p n)]
    by_cases hl : l < n
    · rw [if_pos hl, testBit_packed p l n hl]
    · have e : l = n := by omega
      subst e
      rw [if_neg hl, Nat.sub_self]
      cases p l <;> rfl

/-- A fold of words by addition, started at zero, whose words are the numbers `g`, is the word of the sum of the numbers. -/
theorem fold_addi_ofNat {ι : Type} (g : ι → ℕ) (f : ι → BitVec 32) (hf : ∀ i, f i = BitVec.ofNat 32 (g i)) (S : Finset ι) :
    S.fold IntOp.addi 0#32 f = BitVec.ofNat 32 (∑ i ∈ S, g i) := by
  induction S using Finset.cons_induction with
  | empty => rfl
  | cons a S ha ih =>
    rw [Finset.fold_cons, Finset.sum_cons, ih, hf, BitVec.ofNat_add]
    rfl

/-- The mask of lane `l`: `2 ^ l` on the 21 lanes that hold a value, zero on the others. -/
theorem mask_eq (l : Fin 128) :
    Scalar.select (IntOp.cmpi .slt (BitVec.ofNat 32 l.val) 21#32)
      (IntOp.shli .vector 1#32 (IntOp.minsi (BitVec.ofNat 32 l.val) 21#32)) 0#32
      = if l.val < 21 then BitVec.ofNat 32 (2 ^ l.val) else 0#32 := by
  revert l
  decide +kernel

/-- A word masked with `2 ^ l` is not zero exactly when digit `l` of its number is one. -/
theorem masked_ne (N l : ℕ) (hl : l < 32) :
    IntOp.cmpi .ne (IntOp.andi (BitVec.ofNat 32 N) (BitVec.ofNat 32 (2 ^ l))) 0#32 = BitVec.ofBool (N.testBit l) := by
  rw [WordCmp.cmpi_ne_eq]
  refine congrArg BitVec.ofBool ?_
  unfold IntOp.andi
  have h2 : 2 ^ l < 2 ^ 32 := Nat.pow_lt_pow_right (by decide) hl
  have hv : (BitVec.ofNat 32 N &&& BitVec.ofNat 32 (2 ^ l)).toNat = (N.testBit l).toNat * 2 ^ l := by
    rw [BitVec.toNat_and, BitVec.toNat_ofNat, BitVec.toNat_ofNat, Nat.mod_eq_of_lt h2, Nat.and_two_pow, Nat.testBit_mod_two_pow,
      decide_eq_true hl, Bool.true_and]
  have hp : 0 < 2 ^ l := Nat.two_pow_pos l
  cases hb : N.testBit l
  · rw [hb] at hv
    exact decide_eq_false fun h => h (BitVec.eq_of_toNat_eq (by rw [hv]; simp))
  · rw [hb] at hv
    refine decide_eq_true fun h => ?_
    rw [h] at hv
    simp at hv
    omega

/-- The test the kernel makes on lane `l` of a packed code: the lane's truth value on the 21 lanes that hold one, false on
    the others. -/
theorem lane_bit (p : ℕ → Bool) (l : Fin 128) :
    IntOp.cmpi .ne (IntOp.andi (BitVec.ofNat 32 (packed p 21))
      (Scalar.select (IntOp.cmpi .slt (BitVec.ofNat 32 l.val) 21#32)
        (IntOp.shli .vector 1#32 (IntOp.minsi (BitVec.ofNat 32 l.val) 21#32)) 0#32)) 0#32
      = BitVec.ofBool (decide (l.val < 21) && p l.val) := by
  rw [mask_eq]
  by_cases h : l.val < 21
  · rw [if_pos h, masked_ne _ _ (by omega), testBit_packed p _ _ h, decide_eq_true h, Bool.true_and]
  · rw [if_neg h, decide_eq_false h, Bool.false_and]
    rw [WordCmp.cmpi_ne_eq]
    unfold IntOp.andi
    rw [BitVec.and_zero]
    rfl

end Cert.Proof.Bits
-- ==== Proof.Pre.lean ====
/-
  What the precondition says of one alignment, and the words and numbers that stand for a truth value.
-/
module

public import proofs.«01_k».proof.Proof.Gen.Pre_binary
public import Idealize.ShloMosaic.Lib.ReduceAll
public import Idealize.ShloMosaic.Lib.IdealHost
public import Idealize.ShloMosaic.Lib.Pointwise
public import Idealize.ShloMosaic.Lib.WordCmp

@[expose] public section

noncomputable section

namespace Cert.Proof.Pre

open Idealize.ShloMosaic

/-- The only index of the precondition's result. -/
instance : Subsingleton Cert.Pre_binary.S_.Idx := ⟨fun _ _ => funext fun a => a.elim0⟩

/-- The precondition says that each alignment is zero or one. -/
theorem zero_or_one (x : FVec Ideal Cert.Pre_binary.S4096x128x21 .f32) (y : FVec Ideal Cert.Pre_binary.S21x128 .f32)
    (h : Cert.Pre_binary.fn (F := Ideal) x y = fun _ => 1#1) (i : Cert.Pre_binary.S4096x128x21.Idx) :
    x i = (0 : EReal) ∨ x i = (1 : EReal) := by
  have e := Host.reduce_andi_all _ _ _ _ _ (congrFun h fun a => a.elim0) i
  revert e
  pointwise []
  rw [WordCmp.ori_ofBool, WordCmp.ofBool_eq_one_iff, Bool.or_eq_true, decide_eq_true_iff, decide_eq_true_iff]
  exact id

/-- A truth value as a number: one or zero. -/
def num (b : Bool) : EReal := if b then 1 else 0

/-- A number that is zero or one is the number of the truth value "it is one". -/
theorem eq_num {x : EReal} (h : x = 0 ∨ x = 1) : x = num (decide (x = 1)) := by
  rcases h with h | h
  · rw [h, decide_eq_false zero_ne_one]; rfl
  · rw [h, decide_eq_true rfl]; rfl

/-- Converting a truth value's number to a 32-bit integer gives the word one or zero. -/
theorem fptosi_num (b : Bool) : FloatOps.fptosi (F := Ideal) (φ := .f32) 32 (num b) = BitVec.ofNat 32 b.toNat := by
  show Ideal.fptosi 32 (num b) = _
  unfold Ideal.fptosi
  cases b
  · rw [show num false = ((0 : ℝ) : EReal) from rfl, Ideal.toIntClamped_coe]
    norm_num
  · rw [show num true = ((1 : ℝ) : EReal) from rfl, Ideal.toIntClamped_coe]
    norm_num

/-- Converting the one-bit word of a truth value, widened to 32 bits, to a float gives the truth value's number. -/
theorem sitofp_bit (b : Bool) : FloatOps.sitofp (F := Ideal) .f32 (BitVec.setWidth 32 (BitVec.ofBool b)) = num b := by
  show (((BitVec.setWidth 32 (BitVec.ofBool b)).toInt : ℝ) : EReal) = _
  cases b
  · rw [show (BitVec.setWidth 32 (BitVec.ofBool false)).toInt = 0 by decide, Int.cast_zero]; rfl
  · rw [show (BitVec.setWidth 32 (BitVec.ofBool true)).toInt = 1 by decide, Int.cast_one]; rfl

end Cert.Proof.Pre
-- ==== Proof.Host.lean ====
/-
  What the host lays out for the kernel, read at an element: the packed codes and the table padded with zero rows.
-/
module

public import proofs.«01_k».proof.Proof.Gen.KernelIdeal.Frame
public import proofs.«01_k».proof.Proof.Bits
public import proofs.«01_k».proof.Proof.Pre
public import Idealize.ShloMosaic.Lib.Routing.OpsSet
public import Idealize.ShloMosaic.Lib.StableHlo.ReadAt

@[expose] public section

set_option maxRecDepth 16384

noncomputable section

namespace Cert.Proof.Host

open Cert.KernelIdeal Cert.KernelIdeal.Gen Idealize.ShloMosaic Idealize.SL.Sem

variable (m : (ℓ : Loc nD τ sig) → Buf (Elt Ideal) ℓ)

/-- Entry `x` of the host's literal table is `2 ^ x`. -/
theorem weight (x : Fin 21) : lit0 (S21.rowMajor (ix1 x)) = BitVec.ofNat 32 (2 ^ x.val) := by
  have e : S21.rowMajor (ix1 x) = x := Fin.ext (Shape.rowMajor_val_one _)
  rw [e]
  clear e
  revert x
  decide

/-- Alignment `k` of row `(a, b)`, read as a truth value: whether it is one; false past the 21 alignments. -/
def bit (X : S4096x128x21.Idx → EReal) (a : Fin 4096) (b : Fin 128) (k : ℕ) : Bool :=
  if h : k < 21 then decide (X (ix3 a b ⟨k, h⟩) = 1) else false

/-- On alignments that are zero or one, the code of row `(a, b)` is the row's truth values packed, digit `k` for alignment `k`. -/
theorem code_apply (c : Dev nD) (hX : ∀ i, m (c.tc.loc main_arg0) i = (0 : EReal) ∨ m (c.tc.loc main_arg0) i = (1 : EReal))
    (a : Fin 4096) (b : Fin 128) :
    V m c main_v4 (ix2 a b) = BitVec.ofNat 32 (Bits.packed (bit (m (c.tc.loc main_arg0)) a b) 21) := by
  unfold V V0
  after_reads_at
  rw [Bits.fold_addi_ofNat (fun x : Fin 21 => (bit (m (c.tc.loc main_arg0)) a b x.val).toNat * 2 ^ x.val)]
  · unfold Bits.packed
    rw [Finset.sum_range]
  · intro x
    have hb : bit (m (c.tc.loc main_arg0)) a b x.val = decide (m (c.tc.loc main_arg0) (ix3 a b x) = (1 : EReal)) := dif_pos x.isLt
    rw [weight, hb, BitVec.ofNat_mul]
    have e : (m (c, Proc.tc.devRef main_arg0) (ix3 a b x) : EReal) = Pre.num (decide (m (c.tc.loc main_arg0) (ix3 a b x) = (1 : EReal))) :=
      Pre.eq_num (hX _)
    refine congrArg (IntOp.muli · _) ?_
    exact (congrArg (FloatOps.fptosi (F := Ideal) (φ := .f32) 32) e).trans (Pre.fptosi_num _)

/-- Update `k` of the scatter that lays the 21 rows into the table lands at its own row and column. -/
theorem lands (idx : IVec S1 32) (h0 : ∀ i, idx i = 0#32) (k : S21x128.Idx) (r d : Fin 128) :
    scatter_S128x128_S1_S21x128_01_n_0_0.resultIdx? k idx = some (ix2 r d) ↔ (k 0).val = r.val ∧ (k 1).val = d.val := by
  have hw : ∀ q : Fin 2, scatter_S128x128_S1_S21x128_01_n_0_0.window k q = (k q).val := by
    intro q
    fin_cases q <;> rfl
  have hs : ∀ q : Fin 2, scatter_S128x128_S1_S21x128_01_n_0_0.start k idx q = 0 := by
    intro q
    unfold ScatterDims.start
    split
    · rw [h0]; rfl
    · rfl
  rw [Routing.resultIdx?_eq_some, show (∀ a : Fin S128x128.rank, _) ↔ _ from Fin.forall_fin_two, hs, hs, hw, hw]
  show (0 : ℤ) + ((k 0).val : ℤ) = (r.val : ℤ) ∧ (0 : ℤ) + ((k 1).val : ℤ) = (d.val : ℤ) ↔ _
  omega

/-- Entry `d` of embedding `r`, zero past the 21 embeddings. -/
def embed (E : S21x128.Idx → EReal) (r : ℕ) (d : Fin 128) : EReal := if h : r < 21 then E (ix2 ⟨r, h⟩ d) else 0

/-- The padded table: row `r` is embedding `r` on the first 21 rows, zero on the others. -/
theorem table_apply (c : Dev nD) (r d : Fin 128) :
    V m c main_v8 (ix2 r d) = embed (m (c.tc.loc main_arg1)) r.val d := by
  unfold V V0
  after_reads_at
  unfold embed
  by_cases h : r.val < 21
  · rw [dif_pos h]
    refine Routing.scatter_set_hit _ _ _ _ _ _ (fun k hk => ?_) (ix2 ⟨r.val, h⟩ d) ((lands _ (fun _ => rfl) _ r d).2 ⟨rfl, rfl⟩)
    obtain ⟨h0, h1⟩ := (lands _ (fun _ => rfl) k r d).1 hk
    have e : k = ix2 ⟨r.val, h⟩ d := funext fun a => by
      match a with
      | ⟨0, _⟩ => exact Fin.ext h0
      | ⟨1, _⟩ => exact Fin.ext h1
    rw [e]
    rfl
  · rw [dif_neg h, Routing.scatter_set_miss _ _ _ _ _ fun k hk => h ?_]
    · exact Ideal.ofBits_zero_bf16
    · have h0 := ((lands _ (fun _ => rfl) k r d).1 hk).1
      have h1 : (k 0).val < 21 := (k 0).isLt
      omega

end Cert.Proof.Host
-- ==== Proof.Block.lean ====
/-
  What the kernel stores for one grid point, read at an element.
-/
module

public import proofs.«01_k».proof.Proof.Gen.KernelIdeal.Skeleton
public import proofs.«01_k».proof.Proof.Bits
public import proofs.«01_k».proof.Proof.Pre
public import Idealize.ShloMosaic.Lib.Pointwise

@[expose] public section

set_option maxRecDepth 16384

noncomputable section

namespace Cert.Proof.Block

open Cert.KernelIdeal Cert.KernelIdeal.Gen Idealize.ShloMosaic

/-- Row `r` of the stored block, where the row's code is the packed truth values `p`: the sum of the table's rows, row `l` taken
    with the number of truth value `l` on the 21 lanes that hold one, with zero on the others. -/
theorem stored (x : Vec Ideal S256x128 .i32) (t : Vec Ideal S128x128 .bf16) (r : Fin 32768) (d : Fin 128) (p : ℕ → Bool)
    (h : x (ix2 ⟨r.val / 128, by omega⟩ ⟨r.val % 128, by omega⟩) = BitVec.ofNat 32 (Bits.packed p 21)) :
    k0_pay1 x t (ix2 r d) = ∑ l : Fin 128, Pre.num (decide (l.val < 21) && p l.val) * (t (ix2 l d) : EReal) := by
  pointwise [k0_pay1]
  refine Finset.sum_congr rfl fun l _ => ?_
  rw [h, Bits.lane_bit, Pre.sitofp_bit]

/-- Such a sum over 128 lanes is the sum over the first 21. -/
theorem sum_lanes (p : ℕ → Bool) (g : ℕ → EReal) :
    ∑ l : Fin 128, Pre.num (decide (l.val < 21) && p l.val) * g l.val = ∑ k : Fin 21, Pre.num (p k.val) * g k.val := by
  refine (Fin.sum_univ_add (a := 21) (b := 107) fun l : Fin 128 => Pre.num (decide (l.val < 21) && p l.val) * g l.val).trans ?_
  rw [Finset.sum_eq_zero (s := Finset.univ (α := Fin 107)), add_zero]
  · refine Finset.sum_congr rfl fun k _ => ?_
    rw [Fin.val_castAdd, decide_eq_true k.isLt, Bool.true_and]
  · intro k _
    rw [Fin.val_natAdd, decide_eq_false (by omega), Bool.false_and]
    exact zero_mul _

end Cert.Proof.Block
-- ==== Proof.Bag.lean ====
/-
  The function both programs compute, and the two layouts it is met in.
-/
module

public import proofs.«01_k».proof.Proof.Gen.KernelIdeal
public import proofs.«01_k».proof.Proof.Gen.ReferenceIdeal
public import Idealize.ShloMosaic.Lib.Pointwise

@[expose] public section

set_option maxRecDepth 16384

noncomputable section

namespace Cert.Proof.Bag

open Cert.KernelIdeal Idealize.ShloMosaic

/-- The bag of row `(a, b)` in column `d`: the sum of the embeddings' entries, each times its alignment. -/
def bag (X : S4096x128x21.Idx → EReal) (E : S21x128.Idx → EReal) (a : Fin 4096) (b d : Fin 128) : EReal :=
  ∑ k : Fin 21, X (ix3 a b k) * E (ix2 k d)

/-- The rows of bags one below the other: row `r` is the bag of row `(r / 128, r % 128)`. -/
def bags (X : S4096x128x21.Idx → EReal) (E : S21x128.Idx → EReal) : S524288x128.Idx → EReal := fun i =>
  bag X E ⟨(i 0).val / 128, by have h : (i 0).val < 524288 := (i 0).isLt; omega⟩ ⟨(i 0).val % 128, by omega⟩ (i 1)

/-- The rows of bags cut into groups of 128: at `(a, b, d)` the bag of row `(a, b)`. -/
theorem cast_bags (X : S4096x128x21.Idx → EReal) (E : S21x128.Idx → EReal) (a : Fin 4096) (b d : Fin 128) :
    shapeCast S4096x128x128 (bags X E) Facts₀.shapeCasts_S524288x128_S4096x128x128 (ix3 a b d) = bag X E a b d := by
  pointwise [bags]
  have ea : (⟨(a.val * 128 + b.val) / 128, by omega⟩ : Fin 4096) = a := Fin.ext (show (a.val * 128 + b.val) / 128 = a.val by omega)
  have eb : (⟨(a.val * 128 + b.val) % 128, by omega⟩ : Fin 128) = b := Fin.ext (show (a.val * 128 + b.val) % 128 = b.val by omega)
  rw [ea, eb]

/-- What the reference computes, at `(a, b, d)`: the bag of row `(a, b)`. -/
theorem reference_apply (X : FVec Ideal Cert.ReferenceIdeal.S4096x128x21 .f32) (E : FVec Ideal Cert.ReferenceIdeal.S21x128 .f32) (a : Fin 4096) (b d : Fin 128) :
    shapeCast Cert.ReferenceIdeal.S4096x128x128 (Host.dotGeneral Cert.ReferenceIdeal.dot_S524288x21_S21x128_S524288x128_1_0_0_1_n_n none
      (shapeCast Cert.ReferenceIdeal.S524288x21 X Cert.ReferenceIdeal.Facts₀.shapeCasts_S4096x128x21_S524288x21) E)
      Cert.ReferenceIdeal.Facts₀.shapeCasts_S524288x128_S4096x128x128 (ix3 a b d) = bag X E a b d := by
  pointwise []
  rfl

end Cert.Proof.Bag
-- ==== Proof.Kernel.lean ====
/-
  The kernel program's result, read at an element.
-/
module

public import proofs.«01_k».proof.Proof.Host
public import proofs.«01_k».proof.Proof.Block
public import proofs.«01_k».proof.Proof.Bag
public import Idealize.ShloMosaic.Lib.Pipeline.ValueKit

@[expose] public section

set_option maxRecDepth 16384

noncomputable section

namespace Cert.Proof.Kernel

open Cert.Proof.Bag Cert.KernelIdeal Cert.KernelIdeal.Gen Idealize.ShloMosaic Idealize.SL.Sem

variable (m : (ℓ : Loc nD τ sig) → Buf (Elt Ideal) ℓ)

/-- Where the blocks of grid point `t` begin: block row `t` of the codes and of the output, the table whole. -/
theorem origins : ∀ t : Fin cfg0.grid.N, win0_0.index t 0 = t.val ∧ win0_0.index t 1 = 0 ∧ win0_1.index t 0 = 0 ∧ win0_1.index t 1 = 0
    ∧ win0_2.index t 0 = t.val ∧ win0_2.index t 1 = 0 := by
  decide +kernel

/-- The code window's block at grid point `t` of any contents `A`: rows from `256 t` on. -/
theorem read_codes (t : Fin cfg0.grid.N) (A : S4096x128.Idx → BitVec 32) (a : Fin 256) (b : Fin 128) (h : 256 * t.val + a.val < 4096) :
    ((cfg0.win 0).blk t).view.read (Elt Ideal) A (ix2 a b) = A (ix2 ⟨256 * t.val + a.val, h⟩ b) := by
  refine congrArg A ?_
  blk_ext [origins t]

/-- The table window's block at any grid point of any contents `A`: all of `A`. -/
theorem read_table (t : Fin cfg0.grid.N) (A : S128x128.Idx → EReal) (l d : Fin 128) :
    ((cfg0.win 1).blk t).view.read (Elt Ideal) A (ix2 l d) = A (ix2 l d) := by
  refine congrArg A ?_
  blk_ext [origins t]

/-- The codes the kernel has at grid point `t`, on alignments that are zero or one: each row's truth values packed. -/
theorem code_block (c : Dev nD) (hX : ∀ i, m (c.tc.loc main_arg0) i = (0 : EReal) ∨ m (c.tc.loc main_arg0) i = (1 : EReal))
    (t : Fin cfg0.grid.N) (a : Fin 256) (b : Fin 128) (h : 256 * t.val + a.val < 4096) :
    iblk m c 0 t (ix2 a b) = BitVec.ofNat 32 (Bits.packed (Host.bit (m (c.tc.loc main_arg0)) ⟨256 * t.val + a.val, h⟩ b) 21) :=
  (read_codes t (V m c main_v4) a b h).trans (Host.code_apply m c hX _ _)

/-- The table the kernel has at any grid point: the embeddings, then zero rows. -/
theorem table_block (c : Dev nD) (t : Fin cfg0.grid.N) (l d : Fin 128) :
    iblk m c 1 t (ix2 l d) = Host.embed (m (c.tc.loc main_arg1)) l.val d :=
  (read_table t (V m c main_v8) l d).trans (Host.table_apply m c l d)

/-- The element of the output array that grid point `t` writes from row `r`, column `d` of its block. -/
theorem out_at (t : Fin cfg0.grid.N) (r : Fin 32768) (d : Fin 128) (h : 32768 * t.val + r.val < 524288) :
    ((View.whole main_v9).slice (win0_2.rect t)).emb (ix2 r d) = ix2 ⟨32768 * t.val + r.val, h⟩ d := by
  blk_ext [origins t]

/-- The kernel's output array after the run holds the bags, if every alignment is zero or one. -/
theorem arr_eq (c : Dev nD) (hX : ∀ i, m (c.tc.loc main_arg0) i = (0 : EReal) ∨ m (c.tc.loc main_arg0) i = (1 : EReal)) :
    (dats m 0 c).arrAt 2 cfg0.N = bags (m (c.tc.loc main_arg0)) (m (c.tc.loc main_arg1)) := by
  refine (dats m 0 c).arrAt_eq_of_covers 2 _ (by decide +kernel) fun t hf y => ?_
  blk_simp
  rw [after0_2]
  frame_out
  idx_vars y
  have ht : t.val < 16 := lt_of_lt_of_eq t.isLt (by decide)
  have h : 32768 * t.val + y0.val < 524288 := by omega
  have ha : 256 * t.val + y0.val / 128 < 4096 := by omega
  rw [out_at t y0 y1 h]
  refine (Block.stored _ _ y0 y1 _ (code_block m c hX t ⟨y0.val / 128, by omega⟩ ⟨y0.val % 128, by omega⟩ ha)).trans ?_
  refine (Finset.sum_congr rfl fun l _ => congrArg (_ * ·) (table_block m c t l y1)).trans ?_
  refine (Block.sum_lanes _ fun l => Host.embed (m (c.tc.loc main_arg1)) l y1).trans ?_
  unfold bags bag
  refine Finset.sum_congr rfl fun k _ => ?_
  have ea : (⟨256 * t.val + y0.val / 128, ha⟩ : Fin 4096) = ⟨(32768 * t.val + y0.val) / 128, by omega⟩ :=
    Fin.ext (show 256 * t.val + y0.val / 128 = (32768 * t.val + y0.val) / 128 by omega)
  have eb : (⟨y0.val % 128, by omega⟩ : Fin 128) = ⟨(32768 * t.val + y0.val) % 128, by omega⟩ :=
    Fin.ext (show y0.val % 128 = (32768 * t.val + y0.val) % 128 by omega)
  refine congrArg₂ (· * ·) ?_ (dif_pos k.isLt)
  refine Eq.trans ?_ (Pre.eq_num (hX _)).symm
  rw [ea, eb]
  exact congrArg Pre.num (dif_pos k.isLt)

/-- The program's result: at `(a, b, d)` the output array's row `128 a + b`. -/
theorem result_eq (c : Dev nD) :
    Pipeline.afterTail₀ cfgs (dats m) 0 (V0 m) [hostOps1] c main_v10
      = shapeCast S4096x128x128 ((dats m 0 c).arrAt 2 cfg0.N) shapeCasts_S524288x128_S4096x128x128 := by
  unfold Pipeline.afterTail₀
  after_reads_simp
  exact congrArg (fun x => shapeCast S4096x128x128 x shapeCasts_S524288x128_S4096x128x128)
    (Pipeline.withArrays_arr spec0 launch0.win.arr_inj c (V0 m c) (fun w => (dats m 0 c).arrAt w cfg0.N) 2)

/-- The program's result at `(a, b, d)`, on alignments that are zero or one: the bag of row `(a, b)` in column `d`. -/
theorem result_apply (c : Dev nD) (hX : ∀ i, m (c.tc.loc main_arg0) i = (0 : EReal) ∨ m (c.tc.loc main_arg0) i = (1 : EReal))
    (a : Fin 4096) (b d : Fin 128) :
    Pipeline.afterTail₀ cfgs (dats m) 0 (V0 m) [hostOps1] c main_v10 (ix3 a b d)
      = bag (m (c.tc.loc main_arg0)) (m (c.tc.loc main_arg1)) a b d := by
  rw [result_eq, arr_eq m c hX]
  exact cast_bags _ _ a b d

end Cert.Proof.Kernel
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_binary
public import proofs.«01_k».proof.Proof.Kernel
public import Idealize.ShloMosaic.Lib.Claim

@[expose] public section

set_option maxRecDepth 16384

noncomputable section

namespace Cert.Proof

open Idealize.ShloMosaic Idealize.SL.Sem

/-- The reference runs to the end, leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1))
        ∧ r.2.sem = fun _ => 0 :=
  (θ_run Cert.ReferenceIdeal.defs _ _).mono
    (fun r h => ⟨fun c => (h c).2, sem_eq_zero_of_no_sems (by decide) r.2⟩) (Cert.ReferenceIdeal.Value.run m g)

/-- On alignments that are zero or one the kernel program and the reference, from equal arguments, end with equal results. -/
theorem same_result : Cert.algebraic_KernelIdeal_ReferenceIdeal_pre_binary := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
  · run_from Cert.ReferenceIdeal.Value.run m' g'
    have hX := Pre.zero_or_one _ _ (hpre c)
    funext j
    idx_vars j
    refine Eq.trans ?_ (Kernel.result_apply m c hX j0 j1 j2).symm
    exact Bag.reference_apply _ _ j0 j1 j2

/-- Every claim of the certificate. -/
theorem claim : Cert.Claim :=
  ⟨Cert.Kernel.Gen.facts, Cert.KernelIdeal.Gen.facts, Cert.ReferenceIdeal.Gen.facts, Cert.Pre_binary.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_result⟩

end Cert.Proof
